-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x2944 : Shape := ⟨3, ![4, 512, 2944]⟩
abbrev S4x512x1 : Shape := ⟨3, ![4, 512, 1]⟩
abbrev S2944x1536 : Shape := ⟨2, ![2944, 1536]⟩
abbrev S1536 : Shape := ⟨1, ![1536]⟩
abbrev S2048x2944 : Shape := ⟨2, ![2048, 2944]⟩
abbrev S16x128 : Shape := ⟨2, ![16, 128]⟩
abbrev S12x128 : Shape := ⟨2, ![12, 128]⟩
abbrev S2048x1536 : Shape := ⟨2, ![2048, 1536]⟩
abbrev S256x2944 : Shape := ⟨2, ![256, 2944]⟩
abbrev S256x1536 : Shape := ⟨2, ![256, 1536]⟩
abbrev S2x128 : Shape := ⟨2, ![2, 128]⟩
abbrev S128x2 : Shape := ⟨2, ![128, 2]⟩
abbrev S128x1 : Shape := ⟨2, ![128, 1]⟩
abbrev S256x1 : Shape := ⟨2, ![256, 1]⟩
abbrev S256x128 : Shape := ⟨2, ![256, 128]⟩
abbrev S1x128 : Shape := ⟨2, ![1, 128]⟩
abbrev S4x512x1536 : Shape := ⟨3, ![4, 512, 1536]⟩

abbrev nBuf : Space → Nat
  | .hbm => 11
  | .vmem => 8
  | .smem => 0
  | _ => 0

abbrev bufTy : (tb : Table) → Fin (tcTables nBuf tb) → BufTy
  | .hbm, ⟨0, _⟩ => ⟨S4x512x2944, .fp8e4m3⟩
  | .hbm, ⟨1, _⟩ => ⟨S4x512x1, .f32⟩
  | .hbm, ⟨2, _⟩ => ⟨S2944x1536, .fp8e4m3⟩
  | .hbm, ⟨3, _⟩ => ⟨S1536, .f32⟩
  | .hbm, ⟨4, _⟩ => ⟨S1536, .f32⟩
  | .hbm, ⟨5, _⟩ => ⟨S2048x2944, .fp8e4m3⟩
  | .hbm, ⟨6, _⟩ => ⟨S16x128, .f32⟩
  | .hbm, ⟨7, _⟩ => ⟨S12x128, .f32⟩
  | .hbm, ⟨8, _⟩ => ⟨S12x128, .f32⟩
  | .hbm, ⟨9, _⟩ => ⟨S2048x1536, .bf16⟩
  | .hbm, ⟨10, _⟩ => ⟨S4x512x1536, .bf16⟩
  | .local _ .vmem, ⟨0, _⟩ => ⟨S256x2944, .fp8e4m3⟩
  | .local _ .vmem, ⟨1, _⟩ => ⟨S256x2944, .fp8e4m3⟩
  | .local _ .vmem, ⟨2, _⟩ => ⟨S16x128, .f32⟩
  | .local _ .vmem, ⟨3, _⟩ => ⟨S2944x1536, .fp8e4m3⟩
  | .local _ .vmem, ⟨4, _⟩ => ⟨S12x128, .f32⟩
  | .local _ .vmem, ⟨5, _⟩ => ⟨S12x128, .f32⟩
  | .local _ .vmem, ⟨6, _⟩ => ⟨S256x1536, .bf16⟩
  | .local _ .vmem, ⟨7, _⟩ => ⟨S256x1536, .bf16⟩
  | _, _ => ⟨S4x512x2944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c2_i32 : BitVec 32 := 2#32
  let v4 : BitVec 32 := Scalar.muli arg0 c2_i32
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2944 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2944x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x512x2944 : Shape := ⟨3, ![4, 512, 2944]⟩
abbrev S4x512x1 : Shape := ⟨3, ![4, 512, 1]⟩
abbrev S2944x1536 : Shape := ⟨2, ![2944, 1536]⟩
abbrev S1536 : Shape := ⟨1, ![1536]⟩
abbrev S4x512x1536 : Shape := ⟨3, ![4, 512, 1536]⟩
abbrev S1x1x1536 : Shape := ⟨3, ![1, 1, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4x512x2944, .fp8e4m3⟩
  | .hbm, ⟨1, _⟩ => ⟨S4x512x1, .f32⟩
  | .hbm, ⟨2, _⟩ => ⟨S2944x1536, .fp8e4m3⟩
  | .hbm, ⟨3, _⟩ => ⟨S1536, .f32⟩
  | .hbm, ⟨4, _⟩ => ⟨S1536, .f32⟩
  | .hbm, ⟨5, _⟩ => ⟨S4x512x1536, .bf16⟩
  | .local _ .vmem, ⟨0, _⟩ => ⟨S4x512x2944, .fp8e4m3⟩
  | .local _ .vmem, ⟨1, _⟩ => ⟨S4x512x1, .f32⟩
  | .local _ .vmem, ⟨2, _⟩ => ⟨S2944x1536, .fp8e4m3⟩
  | .local _ .vmem, ⟨3, _⟩ => ⟨S1536, .f32⟩
  | .local _ .vmem, ⟨4, _⟩ => ⟨S1536, .f32⟩
  | .local _ .vmem, ⟨5, _⟩ => ⟨S4x512x1536, .bf16⟩
  | _, _ => ⟨S4x512x2944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x512x2944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2944x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What the kernel's body leaves in the output block at one grid point, over the extended reals. The body stores twelve
   column tiles of 128 columns; every one of them is the same expression (`tile`) of the products of the two matrices, of
   the column of activation scales, and of one row of the weight scales and of the biases. So the block as a whole is one
   function of the five input blocks (`out_eq`). -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.Block

open Cert.KernelIdeal Cert.KernelIdeal.Gen Idealize.ShloMosaic Idealize.ShloMosaic.TcCoe

/-! ## One column tile -/

/-- Tile `j` of twelve lies inside the 1536 columns, for the store of it and for the slice it is computed from. -/
theorem tile_inb (j : Fin 12) : ∀ a, (![0, 128 * j.val] : Fin 2 → Nat) a + S256x128.size a ≤ S256x1536.size a
  | ⟨0, _⟩ => by show 0 + 256 ≤ 256; omega
  | ⟨1, _⟩ => by show 128 * j.val + 128 ≤ 1536; omega

theorem tile_slices (j : Fin 12) : S256x1536.Slices ![0, 128 * j.val] S256x128 := ⟨rfl, tile_inb j⟩

/-- Row `j` of the twelve rows of weight scales (or of biases) lies inside their array. -/
theorem row_inb (j : Fin 12) : ∀ a, (![j.val, 0] : Fin 2 → Nat) a + S1x128.size a ≤ S12x128.size a
  | ⟨0, _⟩ => by show j.val + 1 ≤ 12; omega
  | ⟨1, _⟩ => by show 0 + 128 ≤ 128; omega

variable {F : FTy → Type} [FloatOps F]

/-- What is stored in tile `j`: the tile's columns of the products `acc`, times the column `s` of activation scales, times
    the row `w` of weight scales, plus the row `b` of biases. -/
def tile (acc : FVec F S256x1536 .f32) (s : FVec F S256x1 .f32) (w b : Vec F S1x128 .f32) (j : Fin 12) :
    FVec F S256x128 .bf16 :=
  truncf .bf16
    (addf
      (mulf
        (mulf (extractStridedSlice S256x128 ![0, 128 * j.val] acc (tile_slices j))
          (broadcastTo S256x128 s broadcasts_S256x1_S256x128))
        (broadcastTo S256x128 (shapeCast S1x128 w shapeCasts_S1x128_S1x128 : FVec F S1x128 .f32) broadcasts_S1x128_S256x128))
      (broadcastTo S256x128 (shapeCast S1x128 b shapeCasts_S1x128_S1x128 : FVec F S1x128 .f32) broadcasts_S1x128_S256x128))
    bitsLt_bf16_f32

/-- The store of tile `j`: where it lies in the block and what it holds. -/
def piece (acc : FVec F S256x1536 .f32) (s : FVec F S256x1 .f32) (w b : Fin 12 → Vec F S1x128 .f32) (j : Fin 12) :
    View.Piece (Elt F) S256x1536 .bf16 :=
  ⟨Rect.unit ![0, 128 * j.val] S256x128.size (tile_inb j), tile acc s (w j) (b j) j⟩

/-- The twelve stores, last first. -/
def pieces (acc : FVec F S256x1536 .f32) (s : FVec F S256x1 .f32) (w b : Fin 12 → Vec F S1x128 .f32) :
    List (View.Piece (Elt F) S256x1536 .bf16) :=
  [11, 10, 9, 8, 7, 6, 5, 4, 3, 2, 1, 0].map (piece acc s w b)

/-- The stores that the run of the body found are these twelve. -/
theorem run_pieces (c : Dev nD) (i : grid0.Coords) (arg1 : Memref sig .tc .vmem S256x2944 .fp8e4m3) (harg1 : arg1.IsWhole)
    (arg2 : Memref sig .tc .vmem S16x128 .f32) (harg2 : arg2.IsWhole) (arg3 : Memref sig .tc .vmem S2944x1536 .fp8e4m3)
    (harg3 : arg3.IsWhole) (arg4 : Memref sig .tc .vmem S12x128 .f32) (harg4 : arg4.IsWhole)
    (arg5 : Memref sig .tc .vmem S12x128 .f32) (harg5 : arg5.IsWhole) (arg6 : Memref sig .tc .vmem S256x1536 .bf16)
    (harg6 : arg6.IsWhole) (x0 : Vec F S256x2944 .fp8e4m3) (x1 : Vec F S16x128 .f32) (x2 : Vec F S2944x1536 .fp8e4m3)
    (x3 : Vec F S12x128 .f32) (x4 : Vec F S12x128 .f32) :
    (kernelRun0_A c i arg1 harg1 arg2 harg2 arg3 harg3 arg4 harg4 arg5 harg5 arg6 harg6 x0 x1 x2 x3 x4).1
      = pieces
        (k0_pay2
          (View.readAt (Elt F) arg1.view (Rect.unit (s := S256x2944) ![0, 0] S256x2944.size inb_S256x2944_S256x2944_0_0).toLoadRect (harg1.unread x0))
          (View.readAt (Elt F) arg3.view (Rect.unit (s := S2944x1536) ![0, 0] S2944x1536.size inb_S2944x1536_S2944x1536_0_0).toLoadRect (harg3.unread x2)))
        (k0_pay3 (View.readAt (Elt F) arg2.view (Rect.unit (s := S16x128) (k0_off1 i) S2x128.size (k0_off1_inb i)).toLoadRect (harg2.unread x1)))
        (fun j => View.readAt (Elt F) arg4.view (Rect.unit (s := S12x128) ![j.val, 0] S1x128.size (row_inb j)).toLoadRect (harg4.unread x3))
        (fun j => View.readAt (Elt F) arg5.view (Rect.unit (s := S12x128) ![j.val, 0] S1x128.size (row_inb j)).toLoadRect (harg5.unread x4)) :=
  rfl

/-! ## The tile at an index, over the extended reals -/

/-- A tile at row `r` and column `l`. -/
theorem tile_apply (acc : FVec Ideal S256x1536 .f32) (s : FVec Ideal S256x1 .f32) (w b : Vec Ideal S1x128 .f32) (j : Fin 12)
    (r : Fin 256) (l : Fin 128) :
    tile acc s w b j (ix2 r l)
      = acc (ix2 r ⟨128 * j.val + l.val, by omega⟩) * s (ix2 r 0) * w (ix2 0 l) + b (ix2 0 l) := by
  pointwise [tile]

/-- The products: row `r` of the activations against column `n` of the weights, all 2944 terms. -/
theorem pay2_apply (x : Vec Ideal S256x2944 .fp8e4m3) (w : Vec Ideal S2944x1536 .fp8e4m3) (r : Fin 256) (n : Fin 1536) :
    k0_pay2 x w (ix2 r n) = (∑ k : Fin 2944, x (ix2 r k) * w (ix2 k n) : EReal) := by
  pointwise [k0_pay2]

/-- The column of activation scales: row `r` is entry `r % 128` of row `r / 128` of the two rows loaded. -/
theorem pay3_apply (v : Vec Ideal S2x128 .f32) (r : Fin 256) :
    k0_pay3 v (ix2 r 0) = v (ix2 ⟨r.val / 128, by omega⟩ ⟨r.val % 128, by omega⟩) := by
  pointwise [k0_pay3]
  split
  · exact congrArg v (congrArg₂ ix2 (Fin.ext (by show 0 = r.val / 128; omega)) (Fin.ext (by show r.val = r.val % 128; omega)))
  · exact congrArg v
      (congrArg₂ ix2 (Fin.ext (by show 1 = r.val / 128; omega)) (Fin.ext (by show r.val - 128 = r.val % 128; omega)))

/-! ## The block as a function of the input blocks -/

/-- The output block of grid point `q`: row `r` of the activations against column `n` of the weights, times the scale of
    that row (row `r` of the block is row `256 q + r` of the array, and the scales are kept 128 to a row), times the scale of
    that column, plus the bias of that column (both kept 128 to a row). -/
def out (x0 : Vec Ideal S256x2944 .fp8e4m3) (x1 : Vec Ideal S16x128 .f32) (x2 : Vec Ideal S2944x1536 .fp8e4m3)
    (x3 x4 : Vec Ideal S12x128 .f32) (q : Fin 8) (r : Fin 256) (n : Fin 1536) : EReal :=
  (∑ k : Fin 2944, x0 (ix2 r k) * x2 (ix2 k n) : EReal)
      * x1 (ix2 ⟨2 * q.val + r.val / 128, by omega⟩ ⟨r.val % 128, by omega⟩)
      * x3 (ix2 ⟨n.val / 128, by omega⟩ ⟨n.val % 128, by omega⟩)
    + x4 (ix2 ⟨n.val / 128, by omega⟩ ⟨n.val % 128, by omega⟩)

theorem hz : (![0, 0] : Fin 2 → Nat) = fun _ => 0 := funext fun a => by fin_cases a <;> rfl

/-- At grid point `i` the two rows of activation scales that are loaded start at row `2 i`. -/
theorem off1_eq (i : grid0.Coords) : k0_off1 i = ![2 * (i 0).val, 0] := by
  have h : (i 0).val < 8 := (i 0).isLt
  funext a
  match a with
  | ⟨0, _⟩ =>
    show (BitVec.ofNat 32 (i 0).val * 2#32).toNat = 2 * (i 0).val
    rw [BitVec.toNat_mul, BitVec.toNat_ofNat, BitVec.toNat_ofNat]; omega
  | ⟨1, _⟩ => rfl

/-- Each of the twelve stores holds what `out` says at the places it covers. -/
theorem piece_agrees (x0 : Vec Ideal S256x2944 .fp8e4m3) (x1 : Vec Ideal S16x128 .f32)
    (x2 : Vec Ideal S2944x1536 .fp8e4m3) (x3 x4 : Vec Ideal S12x128 .f32) (i : grid0.Coords) (j : Fin 12)
    (x : S256x128.Idx) :
    tile (F := Ideal)
        (k0_pay2
          (View.ld x0 (Rect.unit (s := S256x2944) ![0, 0] S256x2944.size inb_S256x2944_S256x2944_0_0))
          (View.ld x2 (Rect.unit (s := S2944x1536) ![0, 0] S2944x1536.size inb_S2944x1536_S2944x1536_0_0)))
        (k0_pay3 (View.ld x1 (Rect.unit (s := S16x128) (k0_off1 i) S2x128.size (k0_off1_inb i))))
        (View.ld x3 (Rect.unit (s := S12x128) ![j.val, 0] S1x128.size (row_inb j)))
        (View.ld x4 (Rect.unit (s := S12x128) ![j.val, 0] S1x128.size (row_inb j))) j x
      = out x0 x1 x2 x3 x4 (i 0) (((Rect.unit (s := S256x1536) ![0, 128 * j.val] S256x128.size (tile_inb j)).emb x) 0)
          (((Rect.unit (s := S256x1536) ![0, 128 * j.val] S256x128.size (tile_inb j)).emb x) 1) := by
  obtain ⟨r, l, rfl⟩ : ∃ (r : Fin 256) (l : Fin 128), x = ix2 r l := ⟨x 0, x 1, (ix2_eta x).symm⟩
  rw [View.ld_unit_zero (S := S256x2944) hz, View.ld_unit_zero (S := S2944x1536) hz, tile_apply, pay2_apply, pay3_apply]
  have e0 : ((Rect.unit (s := S256x1536) ![0, 128 * j.val] S256x128.size (tile_inb j)).emb (ix2 r l)) 0 = r :=
    Fin.ext (by show 0 + 1 * r.val = r.val; omega)
  have e1 : ((Rect.unit (s := S256x1536) ![0, 128 * j.val] S256x128.size (tile_inb j)).emb (ix2 r l)) 1
      = (⟨128 * j.val + l.val, by omega⟩ : Fin 1536) :=
    Fin.ext (by show 128 * j.val + 1 * l.val = 128 * j.val + l.val; omega)
  have row (v : Vec Ideal S12x128 .f32) :
      View.ld v (Rect.unit (s := S12x128) ![j.val, 0] S1x128.size (row_inb j)) (ix2 0 l)
        = v (ix2 ⟨(128 * j.val + l.val) / 128, by omega⟩ ⟨(128 * j.val + l.val) % 128, by omega⟩) :=
    congrArg v (funext fun a => Fin.ext (match a with
      | ⟨0, _⟩ => by show j.val + 1 * 0 = (128 * j.val + l.val) / 128; omega
      | ⟨1, _⟩ => by show 0 + 1 * l.val = (128 * j.val + l.val) % 128; omega))
  have scale : View.ld x1 (Rect.unit (s := S16x128) (k0_off1 i) S2x128.size (k0_off1_inb i))
        (ix2 ⟨r.val / 128, by omega⟩ ⟨r.val % 128, by omega⟩)
      = x1 (ix2 ⟨2 * (i 0).val + r.val / 128, by have : (i 0).val < 8 := (i 0).isLt; omega⟩ ⟨r.val % 128, by omega⟩) := by
    have o0 : k0_off1 i 0 = 2 * (i 0).val := congrFun (off1_eq i) 0
    have o1 : k0_off1 i 1 = 0 := congrFun (off1_eq i) 1
    exact congrArg x1 (funext fun a => Fin.ext (match a with
      | ⟨0, _⟩ => by show k0_off1 i 0 + 1 * (r.val / 128) = 2 * (i 0).val + r.val / 128; omega
      | ⟨1, _⟩ => by show k0_off1 i 1 + 1 * (r.val % 128) = r.val % 128; omega))
  rw [e0, e1, row, row, scale]
  rfl

/-- THE OUTPUT BLOCK after the body at grid point `i`, at row `r` and column `n`. -/
theorem out_eq (c : Dev nD) (i : grid0.Coords) (arg1 : Memref sig .tc .vmem S256x2944 .fp8e4m3) (harg1 : arg1.IsWhole)
    (arg2 : Memref sig .tc .vmem S16x128 .f32) (harg2 : arg2.IsWhole) (arg3 : Memref sig .tc .vmem S2944x1536 .fp8e4m3)
    (harg3 : arg3.IsWhole) (arg4 : Memref sig .tc .vmem S12x128 .f32) (harg4 : arg4.IsWhole)
    (arg5 : Memref sig .tc .vmem S12x128 .f32) (harg5 : arg5.IsWhole) (arg6 : Memref sig .tc .vmem S256x1536 .bf16)
    (harg6 : arg6.IsWhole) (x0 : Vec Ideal S256x2944 .fp8e4m3) (x1 : Vec Ideal S16x128 .f32)
    (x2 : Vec Ideal S2944x1536 .fp8e4m3) (x3 x4 : Vec Ideal S12x128 .f32) (y : S256x1536.Idx) :
    out0_A_5 c i arg1 harg1 arg2 harg2 arg3 harg3 arg4 harg4 arg5 harg5 arg6 harg6 x0 x1 x2 x3 x4 y
      = out x0 x1 x2 x3 x4 (i 0) (y 0) (y 1) := by
  unfold out0_A_5
  refine View.read_writes_apply_of_pieces _ _ (fun y => out x0 x1 x2 x3 x4 (i 0) (y 0) (y 1)) _ ?_ y
    (cover0_A_5 c i arg1 harg1 arg2 harg2 arg3 harg3 arg4 harg4 arg5 harg5 arg6 harg6 x0 x1 x2 x3 x4 y)
  rw [run_pieces]
  simp only [View.readAt_eq_ld, harg1.read_unread, harg2.read_unread, harg3.read_unread, harg4.read_unread,
    harg5.read_unread]
  intro p hp x
  obtain ⟨j, -, rfl⟩ := List.mem_map.mp hp
  exact piece_agrees x0 x1 x2 x3 x4 i j x

end Cert.Proof.Block

end
-- ==== Proof.Array.lean ====
/- What the kernel's result array holds after the eight grid points, over the extended reals: grid point `t` writes rows
   `256 t` to `256 t + 255`, each as `Block.out` says, and the eight row blocks fill the array (`final`). -/
module

public import proofs.«01_k».proof.Proof.Block
public import Idealize.ShloMosaic.Lib.Pipeline.ValueKit

@[expose] public section

set_option maxRecDepth 16384

noncomputable section

namespace Cert.Proof.Array

open Cert.KernelIdeal Cert.KernelIdeal.Gen Idealize.ShloMosaic Idealize.ShloMosaic.TcCoe
open Cert.Proof.Block

/-- The result array as a function of the five arrays the kernel works on: row `R` of the activations against column `N` of
    the weights, times the scale of row `R`, times the scale of column `N`, plus the bias of column `N`. The scales and the
    biases are kept 128 to a row. -/
def G (x : Vec Ideal S2048x2944 .fp8e4m3) (xs : Vec Ideal S16x128 .f32) (w : Vec Ideal S2944x1536 .fp8e4m3)
    (ws b : Vec Ideal S12x128 .f32) : Vec Ideal S2048x1536 .bf16 := fun y =>
  have hR : (y 0).val < 2048 := (y 0).isLt
  have hN : (y 1).val < 1536 := (y 1).isLt
  ((∑ k : Fin 2944, x (ix2 (y 0) k) * w (ix2 k (y 1)) : EReal)
      * xs (ix2 ⟨(y 0).val / 128, by omega⟩ ⟨(y 0).val % 128, by omega⟩)
      * ws (ix2 ⟨(y 1).val / 128, by omega⟩ ⟨(y 1).val % 128, by omega⟩)
    + b (ix2 ⟨(y 1).val / 128, by omega⟩ ⟨(y 1).val % 128, by omega⟩) : EReal)

variable (m : (ℓ : Loc nD τ sig) → Buf (Elt Ideal) ℓ)

/-- Where the blocks lie: the activations' and the result's row block at grid point `t` is the `t`-th; the other four
    arrays are each one block. -/
theorem idx_facts : ∀ t : Fin cfg0.N,
    ((grid0.coords t) 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the activations' block at point `t` is row `256 t + r` of the array. -/
theorem iblk0_apply (c : Dev nD) (t : Fin cfg0.N) (r : Fin 256) (k : Fin 2944) (R : Fin 2048)
    (hR : R.val = 256 * t.val + r.val) : iblk m c 0 t (ix2 r k) = V m c main_v0 (ix2 R k) := by
  obtain ⟨-, e0, e1, -⟩ := idx_facts t
  refine congrArg (V m c main_v0) (funext fun a => Fin.ext ?_)
  match a with
  | ⟨0, _⟩ => show win0_0.index t (0 : Fin 2) * 256 + 1 * r.val = R.val; omega
  | ⟨1, _⟩ => show win0_0.index t (1 : Fin 2) * 2944 + 1 * k.val = k.val; omega

/-- The other four arrays' blocks are the arrays themselves. -/
theorem iblk1_eq (c : Dev nD) (t : Fin cfg0.N) : iblk m c 1 t = V m c main_v1 := by
  obtain ⟨-, -, -, e0, e1, -⟩ := idx_facts t
  funext j
  refine congrArg (V m c main_v1) (funext fun a => Fin.ext ?_)
  match a with
  | ⟨0, _⟩ => show win0_1.index t (0 : Fin 2) * 16 + 1 * (j 0).val = (j 0).val; omega
  | ⟨1, _⟩ => show win0_1.index t (1 : Fin 2) * 128 + 1 * (j 1).val = (j 1).val; omega
theorem iblk2_eq (c : Dev nD) (t : Fin cfg0.N) : iblk m c 2 t = V m c main_arg2 := by
  obtain ⟨-, -, -, -, -, e0, e1, -⟩ := idx_facts t
  funext j
  refine congrArg (V m c main_arg2) (funext fun a => Fin.ext ?_)
  match a with
  | ⟨0, _⟩ => show win0_2.index t (0 : Fin 2) * 2944 + 1 * (j 0).val = (j 0).val; omega
  | ⟨1, _⟩ => show win0_2.index t (1 : Fin 2) * 1536 + 1 * (j 1).val = (j 1).val; omega
theorem iblk3_eq (c : Dev nD) (t : Fin cfg0.N) : iblk m c 3 t = V m c main_v2 := by
  obtain ⟨-, -, -, -, -, -, -, e0, e1, -⟩ := idx_facts t
  funext j
  refine congrArg (V m c main_v2) (funext fun a => Fin.ext ?_)
  match a with
  | ⟨0, _⟩ => show win0_3.index t (0 : Fin 2) * 12 + 1 * (j 0).val = (j 0).val; omega
  | ⟨1, _⟩ => show win0_3.index t (1 : Fin 2) * 128 + 1 * (j 1).val = (j 1).val; omega
theorem iblk4_eq (c : Dev nD) (t : Fin cfg0.N) : iblk m c 4 t = V m c main_v3 := by
  obtain ⟨-, -, -, -, -, -, -, -, -, e0, e1, -⟩ := idx_facts t
  funext j
  refine congrArg (V m c main_v3) (funext fun a => Fin.ext ?_)
  match a with
  | ⟨0, _⟩ => show win0_4.index t (0 : Fin 2) * 12 + 1 * (j 0).val = (j 0).val; omega
  | ⟨1, _⟩ => show win0_4.index t (1 : Fin 2) * 128 + 1 * (j 1).val = (j 1).val; omega

/-- What the body leaves at point `t`, at row `r` and column `n` of the block, is `G` at row `256 t + r` and column `n`. -/
theorem outsAt_apply (c : Dev nD) (t : Fin cfg0.N) (y : S256x1536.Idx) (z : S2048x1536.Idx)
    (h0 : (z 0).val = 256 * t.val + (y 0).val) (h1 : (z 1).val = (y 1).val) :
    outsAt0 m c t y
      = G (V m c main_v0) (V m c main_v1) (V m c main_arg2) (V m c main_v2) (V m c main_v3) z := by
  unfold outsAt0
  rw [out_eq, iblk1_eq, iblk2_eq, iblk3_eq, iblk4_eq]
  unfold out G
  have ec := (idx_facts t).1
  have en : y 1 = z 1 := Fin.ext h1.symm
  have hr : (y 0).val < 256 := (y 0).isLt
  have hR : (z 0).val < 2048 := (z 0).isLt
  have hq : ((grid0.coords t) 0).val < 8 := ((grid0.coords t) 0).isLt
  have exs : (ix2 ⟨2 * ((grid0.coords t) 0).val + (y 0).val / 128, by omega⟩
        ⟨(y 0).val % 128, by omega⟩ : S16x128.Idx)
      = ix2 ⟨(z 0).val / 128, by omega⟩ ⟨(z 0).val % 128, by omega⟩ :=
    congrArg₂ ix2 (Fin.ext (by show 2 * _ + _ = (z 0).val / 128; omega)) (Fin.ext (by show _ % 128 = _ % 128; omega))
  rw [exs, en]
  simp only [iblk0_apply m c t (y 0) _ (z 0) h0]

/-- THE RESULT ARRAY after the eight grid points. -/
theorem final (c : Dev nD) : (dats m 0 c).arrAt 5 cfg0.N
    = G (V m c main_v0) (V m c main_v1) (V m c main_arg2) (V m c main_v2) (V m c main_v3) := by
  refine (dats m 0 c).arrAt_eq_of_covers 5 _ (by decide +kernel) fun t hf y => ?_
  blk_simp
  rw [after0_5]
  obtain ⟨-, -, -, -, -, -, -, -, -, -, -, e0, e1⟩ := idx_facts t
  refine outsAt_apply m c t y _ ?_ ?_
  · show win0_5.index t (0 : Fin 2) * 256 + 1 * (y 0).val = 256 * t.val + (y 0).val; omega
  · show win0_5.index t (1 : Fin 2) * 1536 + 1 * (y 1).val = (y 1).val; omega

end Cert.Proof.Array

end
-- ==== Proof.Run.lean ====
/- The kernel's run over the extended reals, with its result named: the four arrays that the kernel takes in another shape are
   the arguments reshaped, the kernel's array is `Array.G` of them, and the result is that array reshaped back (`run`). -/
module

public import proofs.«01_k».proof.Proof.Array

@[expose] public section

noncomputable section

namespace Cert.Proof.Run

open Cert.KernelIdeal Cert.KernelIdeal.Gen Idealize.ShloMosaic Idealize.ShloMosaic.TcCoe Idealize.SL.Sem

/-- The result as a function of the arguments: the activations flattened to 2048 rows, the scales and the biases laid out 128
    to a row, `Array.G` of these, and its 2048 rows split again into 4 times 512. -/
def result (x : Vec Ideal S4x512x2944 .fp8e4m3) (xs : Vec Ideal S4x512x1 .f32) (w : Vec Ideal S2944x1536 .fp8e4m3)
    (ws b : Vec Ideal S1536 .f32) : Vec Ideal S4x512x1536 .bf16 :=
  shapeCast S4x512x1536
    (Array.G (shapeCast S2048x2944 x shapeCasts_S4x512x2944_S2048x2944) (shapeCast S16x128 xs shapeCasts_S4x512x1_S16x128) w
      (shapeCast S12x128 ws shapeCasts_S1536_S12x128) (shapeCast S12x128 b shapeCasts_S1536_S12x128))
    shapeCasts_S2048x1536_S4x512x1536

variable (m : (ℓ : Loc nD τ sig) → Buf (Elt Ideal) ℓ) (ρ : Dev nD → PrngReg)

/-! ## What the kernel is given -/

theorem V_main_v0 (c : Dev nD) : V m c main_v0
    = shapeCast S2048x2944 (m ((c : Thread nD τ).loc main_arg0)) shapeCasts_S4x512x2944_S2048x2944 := by
  show StableHlo.after hostOps0 _ (Proc.devRef .tc main_v0) = _
  after_results
  rfl
theorem V_main_v1 (c : Dev nD) : V m c main_v1
    = shapeCast S16x128 (m ((c : Thread nD τ).loc main_arg1)) shapeCasts_S4x512x1_S16x128 := by
  show StableHlo.after hostOps0 _ (Proc.devRef .tc main_v1) = _
  after_results
  rfl
theorem V_main_v2 (c : Dev nD) : V m c main_v2
    = shapeCast S12x128 (m ((c : Thread nD τ).loc main_arg3)) shapeCasts_S1536_S12x128 := by
  show StableHlo.after hostOps0 _ (Proc.devRef .tc main_v2) = _
  after_results
  rfl
theorem V_main_v3 (c : Dev nD) : V m c main_v3
    = shapeCast S12x128 (m ((c : Thread nD τ).loc main_arg4)) shapeCasts_S1536_S12x128 := by
  show StableHlo.after hostOps0 _ (Proc.devRef .tc main_v3) = _
  after_results
  rfl

/-! ## What comes back -/

/-- The last operation reshapes the kernel's array into the result. -/
theorem W_main_v5 (c : Dev nD) :
    Pipeline.afterTail₀ cfgs (dats m) 0 (V0 m) [hostOps1] c main_v5
      = shapeCast S4x512x1536 ((dats m 0 c).arrAt 5 cfg0.N) shapeCasts_S2048x1536_S4x512x1536 := by
  have h : Pipeline.withArrays spec0 c (V0 m c) (fun w => (dats m 0 c).arrAt w cfg0.N) (Proc.devRef .tc main_v4)
      = (dats m 0 c).arrAt 5 cfg0.N :=
    Pipeline.withArrays_arr spec0 launch0.win.arr_inj c (V0 m c) (fun w => (dats m 0 c).arrAt w cfg0.N) 5
  rw [← h]
  show StableHlo.after hostOps1 _ (Proc.devRef .tc main_v5) = _
  after_results
  rfl

/-- THE RUN: the result is `result` of the arguments, and the arguments are unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      refine ⟨?_, ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c))),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩
      refine ((h c).2 main_v5 (Pipeline.mem_restRefs_of main_v5 (by decide) (by decide))).trans ((W_main_v5 m c).trans ?_)
      rw [Array.final, V_main_v0, V_main_v1, V_main_v2, V_main_v3, V_main_arg2]
      rfl)
    (run_main m ρ)

end Cert.Proof.Run

end
-- ==== Proof.Equation.lean ====
/- The equation between the kernel's result and the reference's, over the extended reals. Both are, at batch `b`, position
   `s` and column `n`, the one formula `linear`; what the kernel's side has to settle is only where its reshapes put things. -/
module

public import proofs.«01_k».proof.Proof.Run
public import proofs.«01_k».proof.Proof.Gen.ReferenceIdeal.Value

@[expose] public section

set_option maxRecDepth 16384

noncomputable section

namespace Cert.Proof.Equation

open Cert.KernelIdeal Idealize.ShloMosaic

/-- The scaled linear layer at one place: the activations' row against the weights' column, times the row's scale, times the
    column's scale, plus the column's bias. -/
def linear (x : Vec Ideal S4x512x2944 .fp8e4m3) (xs : Vec Ideal S4x512x1 .f32) (w : Vec Ideal S2944x1536 .fp8e4m3)
    (ws bias : Vec Ideal S1536 .f32) (b : Fin 4) (s : Fin 512) (n : Fin 1536) : EReal :=
  (∑ k : Fin 2944, x (ix3 b s k) * w (ix2 k n) : EReal) * xs (ix3 b s 0) * ws (ix1 n) + bias (ix1 n)

/-- The reference computes it. -/
theorem reference_apply (x : Vec Ideal S4x512x2944 .fp8e4m3) (xs : Vec Ideal S4x512x1 .f32)
    (w : Vec Ideal S2944x1536 .fp8e4m3) (ws bias : Vec Ideal S1536 .f32) (b : Fin 4) (s : Fin 512) (n : Fin 1536) :
    Cert.ReferenceIdeal.Value.G5 x xs w ws bias (ix3 b s n) = linear x xs w ws bias b s n := by
  pointwise [Cert.ReferenceIdeal.Gen.k0_pay1, linear]

/-- The kernel computes it. -/
theorem kernel_apply (x : Vec Ideal S4x512x2944 .fp8e4m3) (xs : Vec Ideal S4x512x1 .f32)
    (w : Vec Ideal S2944x1536 .fp8e4m3) (ws bias : Vec Ideal S1536 .f32) (b : Fin 4) (s : Fin 512) (n : Fin 1536) :
    Run.result x xs w ws bias (ix3 b s n) = linear x xs w ws bias b s n := by
  pointwise [Run.result, Array.G, linear]

/-- So the two results are equal. -/
theorem result_eq (x : Vec Ideal S4x512x2944 .fp8e4m3) (xs : Vec Ideal S4x512x1 .f32) (w : Vec Ideal S2944x1536 .fp8e4m3)
    (ws bias : Vec Ideal S1536 .f32) :
    (Cert.ReferenceIdeal.Value.G5 x xs w ws bias : Vec Ideal S4x512x1536 .bf16) = Run.result x xs w ws bias := by
  funext j
  obtain ⟨b, s, n, rfl⟩ : ∃ (b : Fin 4) (s : Fin 512) (n : Fin 1536), j = ix3 b s n := ⟨j 0, j 1, j 2, (ix3_eta j).symm⟩
  rw [kernel_apply]
  exact reference_apply x xs w ws bias b s n

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- From memories that agree on the arguments, the kernel and the reference both run over the extended reals and end with the
    same result, arguments unchanged: the kernel's run names its result, and the reference's is equal to it. -/
theorem algebraic [Cert.KernelIdeal.Facts] [Cert.ReferenceIdeal.Facts] : Cert.algebraic_KernelIdeal_ReferenceIdeal :=
  fun m g m' g' _ hargs =>
    ⟨_, Cert.Proof.Run.run m g,
      (θ_run (Cert.ReferenceIdeal.defs (F := Ideal)) _ _).mono
        (fun _ h c => ⟨(h c).1.trans (by
            obtain ⟨e0, e1, e2, e3, e4⟩ := hargs c
            rw [e0, e1, e2, e3, e4]
            exact Cert.Proof.Equation.result_eq _ _ _ _ _), (h c).2⟩)
        (Cert.ReferenceIdeal.Value.run m' g')⟩

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
